-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_nearest [hPre_one_nearest : Cert.Pre_one_nearest.Facts] (m : (ℓ : Loc Cert.KernelIdeal.nD Cert.KernelIdeal.τ Cert.KernelIdeal.sig) → Buf (Elt Ideal) ℓ) : Prop :=
  ∀ c : Dev Cert.KernelIdeal.nD,
    (Cert.Pre_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_nearest [hPre_one_nearest : Cert.Pre_one_nearest.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_one_nearest [hKernelIdeal : Cert.KernelIdeal.Facts] [hPre_one_nearest : Cert.Pre_one_nearest.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_nearest m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_one_nearest [hReferenceIdeal : Cert.ReferenceIdeal.Facts] [hPre_one_nearest : Cert.Pre_one_nearest.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_nearest m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_one_nearest [hKernelIdeal : Cert.KernelIdeal.Facts] [hReferenceIdeal : Cert.ReferenceIdeal.Facts] [hPre_one_nearest : Cert.Pre_one_nearest.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_nearest m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_one_nearest : Cert.Pre_one_nearest.Facts),
    quiescent_Kernel (hKernel := hKernel)
    ∧ quiescent_KernelIdeal (hKernelIdeal := hKernelIdeal)
    ∧ quiescent_KernelIdeal_pre_one_nearest (hKernelIdeal := hKernelIdeal) (hPre_one_nearest := hPre_one_nearest)
    ∧ quiescent_ReferenceIdeal (hReferenceIdeal := hReferenceIdeal)
    ∧ quiescent_ReferenceIdeal_pre_one_nearest (hReferenceIdeal := hReferenceIdeal) (hPre_one_nearest := hPre_one_nearest)
    ∧ preserves_Kernel_KernelIdeal
    ∧ algebraic_KernelIdeal_ReferenceIdeal_pre_one_nearest (hKernelIdeal := hKernelIdeal) (hReferenceIdeal := hReferenceIdeal) (hPre_one_nearest := hPre_one_nearest)
-- ==== Pre_one_nearest.lean ====
abbrev S16x64x32x32 : Shape := ⟨4, ![16, 64, 32, 32]⟩
abbrev S1024x64 : Shape := ⟨2, ![1024, 64]⟩
abbrev S16x32x32x64 : Shape := ⟨4, ![16, 32, 32, 64]⟩
abbrev S16384x64 : Shape := ⟨2, ![16384, 64]⟩
abbrev S_ : Shape := ⟨0, ![]⟩
abbrev S1024 : Shape := ⟨1, ![1024]⟩
abbrev S16384 : Shape := ⟨1, ![16384]⟩
abbrev S16384x1 : Shape := ⟨2, ![16384, 1]⟩
abbrev S1x1024 : Shape := ⟨2, ![1, 1024]⟩
abbrev S16384x1024 : Shape := ⟨2, ![16384, 1024]⟩
abbrev S64x1024 : Shape := ⟨2, ![64, 1024]⟩

class Facts : Prop where
  transposes_S16x64x32x32_S16x32x32x64_0_2_3_1 : S16x64x32x32.Transposes [0, 2, 3, 1] S16x32x32x64
  shapeCasts_S16x32x32x64_S16384x64 : S16x32x32x64.ShapeCasts S16384x64
  reducesTo_S1024x64_S1024_d1 : S1024x64.ReducesTo [1] S1024
  h_S_ : 0 < S_.numel
  reducesTo_S16384x64_S16384_d1 : S16384x64.ReducesTo [1] S16384
  bcast_S16384_S16384x1_0 : S16384.BroadcastsInDim S16384x1 (![0] : Fin 1 → Fin S16384x1.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S16384x1_S16384x1024_0_1 : S16384x1.BroadcastsInDim S16384x1024 (![0, 1] : Fin 2 → Fin S16384x1024.rank)
  transposes_S1024x64_S64x1024_1_0 : S1024x64.Transposes [1, 0] S64x1024
  bcast_S_S16384x1024 : S_.BroadcastsInDim S16384x1024 (![] : Fin 0 → Fin S16384x1024.rank)
  reducesTo_S16384x1024_S16384_d1 : S16384x1024.ReducesTo [1] S16384
  natLt_1_32 : 1 < 32
  bcast_S_S16384 : S_.BroadcastsInDim S16384 (![] : Fin 0 → Fin S16384.rank)
  reducesTo_S16384_S_d0 : S16384.ReducesTo [0] S_
  bcast_S_S16x64x32x32 : S_.BroadcastsInDim S16x64x32x32 (![] : Fin 0 → Fin S16x64x32x32.rank)
  reducesTo_S16x64x32x32_S_d0_1_2_3 : S16x64x32x32.ReducesTo [0, 1, 2, 3] S_
  bcast_S_S1024x64 : S_.BroadcastsInDim S1024x64 (![] : Fin 0 → Fin S1024x64.rank)
  reducesTo_S1024x64_S_d0_1 : S1024x64.ReducesTo [0, 1] S_
  dot_S16384x64_S64x1024_S16384x1024_1_0_0_1_n_n_wf : DotDims.WF S16384x64 S64x1024 S16384x1024 [1] [0] [0] [1] [] []

variable [Facts]

def dot_S16384x64_S64x1024_S16384x1024_1_0_0_1_n_n : DotDims S16384x64 S64x1024 S16384x1024 where
  lhsContracting := [1]
  rhsContracting := [0]
  lhsNonContracting := [0]
  rhsNonContracting := [1]
  lhsBatch := []
  rhsBatch := []
  wf := dot_S16384x64_S64x1024_S16384x1024_1_0_0_1_n_n_wf
def fn_part1 {F : FTy → Type} [FloatOps F] (main_arg0 : FVec F S16x64x32x32 .f32) (main_arg1 : FVec F S1024x64 .f32) (main_v19 : IVec S16384x1024 1) : IVec S_ 1 :=
  let main_v20 : IVec S16384x1024 32 := (extui 32 · natLt_1_32) main_v19
  let main_c : IVec S_ 32 := constantI S_ 32 0#32
  let main_v21 : IVec S16384 32 := (fun x v => Host.reduce IntOp.addi x v reducesTo_S16384x1024_S16384_d1 h_S_) main_v20 main_c
  let main_c_3 : IVec S_ 32 := constantI S_ 32 1#32
  let main_v22 : IVec S16384 32 := broadcastInDim S16384 ![] bcast_S_S16384 main_c_3
  let main_v23 : IVec S16384 1 := cmpi .eq main_v21 main_v22
  let main_c_4 : IVec S_ 1 := constantI S_ 1 1#1
  let main_v24 : IVec S_ 1 := (fun x v => Host.reduce IntOp.andi x v reducesTo_S16384_S_d0 h_S_) main_v23 main_c_4
  let main_v25 : FVec F S16x64x32x32 .f32 := Host.absf main_arg0
  let main_cst_5 : FVec F S_ .f32 := constant S_ .f32 0x7F800000#32
  let main_v26 : FVec F S16x64x32x32 .f32 := broadcastInDim S16x64x32x32 ![] bcast_S_S16x64x32x32 main_cst_5
  let main_v27 : IVec S16x64x32x32 1 := cmpf .olt main_v25 main_v26
  let main_c_6 : IVec S_ 1 := constantI S_ 1 1#1
  let main_v28 : IVec S_ 1 := (fun x v => Host.reduce IntOp.andi x v reducesTo_S16x64x32x32_S_d0_1_2_3 h_S_) main_v27 main_c_6
  let main_v29 : IVec S_ 1 := andi main_v24 main_v28
  let main_v30 : FVec F S1024x64 .f32 := Host.absf main_arg1
  let main_cst_7 : FVec F S_ .f32 := constant S_ .f32 0x7F800000#32
  let main_v31 : FVec F S1024x64 .f32 := broadcastInDim S1024x64 ![] bcast_S_S1024x64 main_cst_7
  let main_v32 : IVec S1024x64 1 := cmpf .olt main_v30 main_v31
  let main_c_8 : IVec S_ 1 := constantI S_ 1 1#1
  let main_v33 : IVec S_ 1 := (fun x v => Host.reduce IntOp.andi x v reducesTo_S1024x64_S_d0_1 h_S_) main_v32 main_c_8
  let main_v34 : IVec S_ 1 := andi main_v29 main_v33
  main_v34

def fn {F : FTy → Type} [FloatOps F] (main_arg0 : FVec F S16x64x32x32 .f32) (main_arg1 : FVec F S1024x64 .f32) : IVec S_ 1 :=
  let main_v0 : FVec F S16x32x32x64 .f32 := (transpose S16x32x32x64 [0, 2, 3, 1] · transposes_S16x64x32x32_S16x32x32x64_0_2_3_1) main_arg0
  let main_v1 : FVec F S16384x64 .f32 := shapeCast S16384x64 main_v0 shapeCasts_S16x32x32x64_S16384x64
  let main_v2 : FVec F S1024x64 .f32 := mulf main_arg1 main_arg1
  let main_cst : FVec F S_ .f32 := constant S_ .f32 0x00000000#32
  let main_v3 : FVec F S1024 .f32 := (fun x v => Host.reduceAdd x v reducesTo_S1024x64_S1024_d1 h_S_) main_v2 main_cst
  let main_v4 : FVec F S16384x64 .f32 := mulf main_v1 main_v1
  let main_cst_0 : FVec F S_ .f32 := constant S_ .f32 0x00000000#32
  let main_v5 : FVec F S16384 .f32 := (fun x v => Host.reduceAdd x v reducesTo_S16384x64_S16384_d1 h_S_) main_v4 main_cst_0
  let main_v6 : FVec F S16384x1 .f32 := broadcastInDim S16384x1 ![0] bcast_S16384_S16384x1_0 main_v5
  let main_v7 : FVec F S1x1024 .f32 := broadcastInDim S1x1024 ![1] bcast_S1024_S1x1024_1 main_v3
  let main_v8 : FVec F S16384x1024 .f32 := broadcastInDim S16384x1024 ![0, 1] bcast_S1x1024_S16384x1024_0_1 main_v7
  let main_v9 : FVec F S16384x1024 .f32 := broadcastInDim S16384x1024 ![0, 1] bcast_S16384x1_S16384x1024_0_1 main_v6
  let main_v10 : FVec F S16384x1024 .f32 := addf main_v8 main_v9
  let main_v11 : FVec F S64x1024 .f32 := (transpose S64x1024 [1, 0] · transposes_S1024x64_S64x1024_1_0) main_arg1
  let main_v12 : FVec F S16384x1024 .f32 := (fun l r => Host.dotGeneral dot_S16384x64_S64x1024_S16384x1024_1_0_0_1_n_n none l r) main_v1 main_v11
  let main_cst_1 : FVec F S_ .f32 := constant S_ .f32 0x40000000#32
  let main_v13 : FVec F S16384x1024 .f32 := broadcastInDim S16384x1024 ![] bcast_S_S16384x1024 main_cst_1
  let main_v14 : FVec F S16384x1024 .f32 := mulf main_v13 main_v12
  let main_v15 : FVec F S16384x1024 .f32 := subf main_v10 main_v14
  let main_cst_2 : FVec F S_ .f32 := constant S_ .f32 0x7F800000#32
  let main_v16 : FVec F S16384 .f32 := (fun x v => Host.reduce FloatOps.minimumf x v reducesTo_S16384x1024_S16384_d1 h_S_) main_v15 main_cst_2
  let main_v17 : FVec F S16384x1 .f32 := broadcastInDim S16384x1 ![0] bcast_S16384_S16384x1_0 main_v16
  let main_v18 : FVec F S16384x1024 .f32 := broadcastInDim S16384x1024 ![0, 1] bcast_S16384x1_S16384x1024_0_1 main_v17
  let main_v19 : IVec S16384x1024 1 := cmpf .oeq main_v15 main_v18
  fn_part1 (F := F) main_arg0 main_arg1 main_v19
-- ==== Kernel.lean ====
abbrev S16x64x32x32 : Shape := ⟨4, ![16, 64, 32, 32]⟩
abbrev S1024x64 : Shape := ⟨2, ![1024, 64]⟩
abbrev S16x32x32x64 : Shape := ⟨4, ![16, 32, 32, 64]⟩
abbrev S4x4096x64 : Shape := ⟨3, ![4, 4096, 64]⟩
abbrev S64x1024 : Shape := ⟨2, ![64, 1024]⟩
abbrev S4x1x4096 : Shape := ⟨3, ![4, 1, 4096]⟩
abbrev S1x4096x64 : Shape := ⟨3, ![1, 4096, 64]⟩
abbrev S1x1x4096 : Shape := ⟨3, ![1, 1, 4096]⟩
abbrev S1024x1 : Shape := ⟨2, ![1024, 1]⟩
abbrev S1024 : Shape := ⟨1, ![1024]⟩
abbrev S4096x64 : Shape := ⟨2, ![4096, 64]⟩
abbrev S1024x4096 : Shape := ⟨2, ![1024, 4096]⟩
abbrev S4096 : Shape := ⟨1, ![4096]⟩
abbrev S1x4096 : Shape := ⟨2, ![1, 4096]⟩
abbrev S1x1024 : Shape := ⟨2, ![1, 1024]⟩
abbrev S16x32x32 : Shape := ⟨3, ![16, 32, 32]⟩

abbrev nBuf : Space → Nat
  | .hbm => 7
  | .vmem => 7
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x32x32x64, .f32⟩
  | .hbm, ⟨3, _⟩ => ⟨S4x4096x64, .f32⟩
  | .hbm, ⟨4, _⟩ => ⟨S64x1024, .f32⟩
  | .hbm, ⟨5, _⟩ => ⟨S4x1x4096, .i32⟩
  | .hbm, ⟨6, _⟩ => ⟨S16x32x32, .i32⟩
  | .local _ .vmem, ⟨0, _⟩ => ⟨S1x4096x64, .f32⟩
  | .local _ .vmem, ⟨1, _⟩ => ⟨S1x4096x64, .f32⟩
  | .local _ .vmem, ⟨2, _⟩ => ⟨S64x1024, .f32⟩
  | .local _ .vmem, ⟨3, _⟩ => ⟨S1x1x4096, .i32⟩
  | .local _ .vmem, ⟨4, _⟩ => ⟨S1x1x4096, .i32⟩
  | .local _ .vmem, ⟨5, _⟩ => ⟨S1024x64, .f32⟩
  | .local _ .vmem, ⟨6, _⟩ => ⟨S1024x1, .f32⟩
  | _, _ => ⟨S16x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16x64x32x32 : Shape := ⟨4, ![16, 64, 32, 32]⟩
abbrev S1024x64 : Shape := ⟨2, ![1024, 64]⟩
abbrev S16x32x32x64 : Shape := ⟨4, ![16, 32, 32, 64]⟩
abbrev S16384x64 : Shape := ⟨2, ![16384, 64]⟩
abbrev S_ : Shape := ⟨0, ![]⟩
abbrev S1024 : Shape := ⟨1, ![1024]⟩
abbrev S16384 : Shape := ⟨1, ![16384]⟩
abbrev S16384x1 : Shape := ⟨2, ![16384, 1]⟩
abbrev S1x1024 : Shape := ⟨2, ![1, 1024]⟩
abbrev S16384x1024 : Shape := ⟨2, ![16384, 1024]⟩
abbrev S64x1024 : Shape := ⟨2, ![64, 1024]⟩
abbrev S16x32x32 : Shape := ⟨3, ![16, 32, 32]⟩

abbrev nBuf : Space → Nat
  | .hbm => 28
  | .vmem => 0
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x32x32x64, .f32⟩
  | .hbm, ⟨3, _⟩ => ⟨S16x32x32x64, .f32⟩
  | .hbm, ⟨4, _⟩ => ⟨S16384x64, .f32⟩
  | .hbm, ⟨5, _⟩ => ⟨S1024x64, .f32⟩
  | .hbm, ⟨6, _⟩ => ⟨S_, .f32⟩
  | .hbm, ⟨7, _⟩ => ⟨S1024, .f32⟩
  | .hbm, ⟨8, _⟩ => ⟨S16384x64, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S1x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S64x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .i32⟩
  | .hbm, ⟨23, _⟩ => ⟨S_, .f32⟩
  | .hbm, ⟨24, _⟩ => ⟨S_, .i32⟩
  | .hbm, ⟨25, _⟩ => ⟨S16384, .f32⟩
  | .hbm, ⟨26, _⟩ => ⟨S16384, .i32⟩
  | .hbm, ⟨27, _⟩ => ⟨S16x32x32, .i32⟩
  | _, _ => ⟨S16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_cst : Ref sig .tc := ⟨.hbm, 23, rfl⟩
abbrev main_call0_c : Ref sig .tc := ⟨.hbm, 24, rfl⟩
abbrev main_call0_v1_0 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Proof.KernelRun.lean ====
/-
  The run of the kernel.  The grid has four points, one block of 4096 input vectors each.  The first point
  fills two scratch buffers from the codebook (the rows times −2, and their squared lengths) and the others
  read what it left; every point writes its own block of the result.  `run` names the array the whole program
  returns as a function of its two arguments, still in the kernel's own operations.
-/
module

public import proofs.«01_k».proof.Defs
public import proofs.«01_k».proof.Proof.Gen.KernelIdeal.Frame
public import Idealize.ShloMosaic.Lib.Pipeline.ValueKit
public import Idealize.ShloMosaic.Lib.Pipeline.ReadBack
public import Idealize.ShloMosaic.Lib.Pointwise
public import Idealize.ShloMosaic.Lib.Claim

@[expose] public section

noncomputable section

namespace Cert.Nearest.Kernel

open Cert.KernelIdeal Cert.KernelIdeal.Gen
open Idealize.ShloMosaic Idealize.ShloMosaic.TcCoe Idealize.SL.Sem
open Idealize.ShloMosaic.Pipeline (Dat)

variable {F : FTy → Type} [FloatOps F]

/-! ## What the launch hands the kernel -/

/-- The input's vectors in four blocks of 4096 rows: channels moved last, the positions merged. -/
def blocks (x : FVec F S16x64x32x32 .f32) : FVec F S4x4096x64 .f32 :=
  shapeCast S4x4096x64 (transpose S16x32x32x64 [0, 2, 3, 1] x transposes_S16x64x32x32_S16x32x32x64_0_2_3_1)
    shapeCasts_S16x32x32x64_S4x4096x64

/-- Block `b` of the input's vectors, as the body loads it. -/
def block (x : FVec F S16x64x32x32 .f32) (b : Fin 4) : FVec F S1x4096x64 .f32 := fun y => blocks x (ix3 b (y 1) (y 2))

/-- The codebook with its axes exchanged. -/
def codes (w : FVec F S1024x64 .f32) : FVec F S64x1024 .f32 :=
  transpose S64x1024 [1, 0] w transposes_S1024x64_S64x1024_1_0

/-- What the body stores for block `b`, from the block and from the two scratch buffers' contents. -/
def stored (x : FVec F S16x64x32x32 .f32) (w : FVec F S1024x64 .f32) (b : Fin 4) : IVec S1x1x4096 32 :=
  k0_pay4 (block x b) (k0_pay2 (codes w)) (k0_pay3 (codes w))

/-- The result array of the launch: one stored row per block. -/
def stacked (x : FVec F S16x64x32x32 .f32) (w : FVec F S1024x64 .f32) : IVec S4x1x4096 32 :=
  fun i => stored x w (i 0) (ix3 0 0 (i 2))

/-- What the program returns: that array, laid out over batch and position. -/
def answer (x : FVec F S16x64x32x32 .f32) (w : FVec F S1024x64 .f32) : IVec S16x32x32 32 :=
  shapeCast S16x32x32 (stacked x w) shapeCasts_S4x1x4096_S16x32x32

variable (m : (ℓ : Loc nD τ sig) → Buf (Elt F) ℓ) (ρ : Dev nD → PrngReg)

/-- The first argument as the program finds it. -/
abbrev argX (c : Dev nD) : FVec F S16x64x32x32 .f32 := m ((c : Thread nD τ).loc main_arg0)

/-- The second argument as the program finds it. -/
abbrev argW (c : Dev nD) : FVec F S1024x64 .f32 := m ((c : Thread nD τ).loc main_arg1)

/-- The kernel's first operand holds the blocks of input vectors. -/
theorem operand0 (c : Dev nD) : V m c main_v1 = blocks (argX m c) := by
  show StableHlo.after (List.flatten [hostOps0]) _ _ = _
  unfold hostOps0
  simp only [List.flatten_cons, List.flatten_nil, List.append_nil]
  after_results_simp
  rfl

/-- The kernel's second operand holds the codebook with its axes exchanged. -/
theorem operand1 (c : Dev nD) : V m c main_v2 = codes (argW m c) := by
  show StableHlo.after (List.flatten [hostOps0]) _ _ = _
  unfold hostOps0
  simp only [List.flatten_cons, List.flatten_nil, List.append_nil]
  after_results_simp
  rfl

/-- Where the windows' blocks lie: the input's and the result's are block `t`, the codebook's is the whole array. -/
theorem places : ∀ t : Fin cfg0.N, win0_0.index t = ![t.val, 0, 0] ∧ win0_1.index t = ![0, 0]
    ∧ win0_2.index t = ![t.val, 0, 0] :=
  (by decide +kernel : ∀ t : Fin grid0.N, _)

/-- A grid point as a block number. -/
def num (t : Fin cfg0.N) : Fin 4 := ⟨t.val, lt_of_lt_of_eq t.isLt (show cfg0.N = 4 from N_0)⟩

/-- At point `t` the body's first operand is block `t` of the input. -/
theorem input_block (c : Dev nD) (t : Fin cfg0.N) : iblk m c 0 t = block (argX m c) (num t) := by
  funext y
  obtain ⟨h0, h1, h2⟩ := places t
  show V m c main_v1 (((cfg0.win 0).blk t).view.emb y) = blocks (argX m c) (ix3 (num t) (y 1) (y 2))
  rw [operand0]
  congr 1
  blk_ext [h0, num]

/-- At every point the body's second operand is the whole exchanged codebook. -/
theorem code_block (c : Dev nD) (t : Fin cfg0.N) : iblk m c 1 t = codes (argW m c) := by
  funext y
  obtain ⟨h0, h1, h2⟩ := places t
  show V m c main_v2 (((cfg0.win 1).blk t).view.emb y) = codes (argW m c) y
  rw [operand1]
  congr 1
  blk_ext [h1]

/-! ## What each point leaves -/

/-- After every point the two scratch buffers hold what the first point stored from the codebook. -/
theorem scratch_after (c : Dev nD) (n : ℕ) (hn : n < cfg0.N) :
    (outsAt0 m c n hn).2 = (k0_pay2 (codes (argW m c)), k0_pay3 (codes (argW m c))) := by
  induction n with
  | zero =>
    rw [outsAt0_A m c ⟨0, hn⟩ (Nat.zero_mod _)]
    refine Prod.ext ?_ ?_
    · dsimp only
      frame_out
      rw [code_block]
    · dsimp only
      frame_out
      rw [code_block]
  | succ n ih =>
    have hN := lt_of_lt_of_eq hn (show cfg0.N = 4 from N_0)
    rw [outsAt0_B m c ⟨n + 1, hn⟩ (by show ¬ (n + 1) % 4 = 0; omega)]
    exact ih (Nat.lt_of_succ_lt hn)

/-- Point `t` leaves in its result block what the body computes from block `t` and the codebook. -/
theorem block_after (c : Dev nD) (t : Fin cfg0.N) :
    (outsAt0 m c t.val t.isLt).1 = stored (argX m c) (argW m c) (num t) := by
  by_cases h : t.val % 4 = 0
  · rw [outsAt0_A m c t h]
    dsimp only
    frame_out
    rw [input_block, code_block]
    rfl
  · rw [outsAt0_B m c t h, scratch_after]
    dsimp only
    frame_out
    simp only [read_unread_whole]
    rw [input_block]
    rfl

/-! ## The result -/

/-- After the launch the result array holds the stored rows: the four points' blocks tile it. -/
theorem array_after (c : Dev nD) : (dats m 0 c).arrAt 2 cfg0.N = stacked (argX m c) (argW m c) := by
  refine (dats m 0 c).arrAt_eq_of_covers 2 _ (by decide +kernel) fun t hf y => ?_
  obtain ⟨h0, h1, h2⟩ := places t
  blk_simp
  rw [after0_2, block_after]
  have hy : (y : S1x1x4096.Idx) = ix3 0 0 (y 2) := by
    idx_vars y
    exact congrArg₂ (fun a b => ix3 a b _) (Subsingleton.elim _ _) (Subsingleton.elim _ _)
  have hd : ((win0_2.blk t).view.emb y : S4x1x4096.Idx) = ix3 (num t) 0 (y 2) := by
    blk_ext [h2, num]
  rw [hd]
  exact congrArg (stored (argX m c) (argW m c) (num t)) hy

/-- The program's last step lays the result array out over batch and position. -/
theorem result_after (c : Dev nD) :
    Pipeline.afterTail₀ cfgs (dats m) 0 (V0 m) [hostOps1] c main_v4 = answer (argX m c) (argW m c) := by
  have hw : Pipeline.withArrays (cfgs 0).spec c (V0 m c) (fun w => (dats m 0 c).arrAt w (cfgs 0).N)
      (Proc.devRef .tc main_v3) = stacked (argX m c) (argW m c) :=
    (Pipeline.withArrays_arr spec0 (by decide : Function.Injective (Pipeline.arrRef spec0)) c (V0 m c) _ 2).trans (array_after m c)
  show StableHlo.after (List.flatten [hostOps1]) _ _ = _
  unfold hostOps1
  simp only [List.flatten_cons, List.flatten_nil, List.append_nil]
  after_results_simp
  unfold answer
  rw [← hw]
  rfl

/-- The program ends with its result equal to `answer` of its two arguments, which it leaves as they were. -/
theorem run : θ_run defs (onTc main) (s₀ m ρ) fun r =>
    (∀ c : Dev nD, r.2.mem ((c : Thread nD τ).loc main_v4) = answer (argX m c) (argW m c)
      ∧ r.2.mem ((c : Thread nD τ).loc main_arg0) = m ((c : Thread nD τ).loc main_arg0)
      ∧ r.2.mem ((c : Thread nD τ).loc main_arg1) = m ((c : Thread nD τ).loc main_arg1)) :=
  θ_run_mono (run_main m ρ) fun r h c =>
    ⟨((h c).2 main_v4 (Pipeline.mem_restRefs_of main_v4 (by decide) (by decide))).trans (result_after m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩

end Cert.Nearest.Kernel

end
-- ==== Proof.ReferenceRun.lean ====
/-
  The run of the reference: a straight line of host operations.  `table` is the array of squared
  distances it forms, `answer` the array of indices it returns; `run` says that every execution ends
  with `answer` in the result, with both arguments untouched and every semaphore counter at zero.
-/
module

public import proofs.«01_k».proof.Defs
public import proofs.«01_k».proof.Proof.Gen.ReferenceIdeal
public import Idealize.ShloMosaic.Lib.Claim
public import Idealize.ShloMosaic.Lib.Quiescent

@[expose] public section

noncomputable section

namespace Cert.Nearest.Reference

open Cert.ReferenceIdeal Cert.ReferenceIdeal.Gen
open Idealize.ShloMosaic Idealize.ShloMosaic.TcCoe Idealize.ShloMosaic.StableHlo Idealize.SL.Sem

variable {F : FTy → Type} [FloatOps F]

/-- The input's vectors as rows: channels moved last, the three position axes merged into one. -/
def rows (x : FVec F S16x64x32x32 .f32) : FVec F S16384x64 .f32 :=
  shapeCast S16384x64 (transpose S16x32x32x64 [0, 2, 3, 1] x transposes_S16x64x32x32_S16x32x32x64_0_2_3_1)
    shapeCasts_S16x32x32x64_S16384x64

/-- The squared length of each codebook row. -/
def codeSq (w : FVec F S1024x64 .f32) : FVec F S1024 .f32 :=
  Host.reduceAdd (mulf w w) (constant S_ .f32 0x00000000#32) reducesTo_S1024x64_S1024_d1 h_S_

/-- The squared length of each input vector. -/
def rowSq (x : FVec F S16x64x32x32 .f32) : FVec F S16384 .f32 :=
  Host.reduceAdd (mulf (rows x) (rows x)) (constant S_ .f32 0x00000000#32) reducesTo_S16384x64_S16384_d1 h_S_

/-- The table of squared distances, one row per input vector and one column per code. -/
def table (x : FVec F S16x64x32x32 .f32) (w : FVec F S1024x64 .f32) : FVec F S16384x1024 .f32 :=
  subf
    (addf (broadcastInDim S16384x1024 ![0, 1] bcast_S1x1024_S16384x1024_0_1
            (broadcastInDim S1x1024 ![1] bcast_S1024_S1x1024_1 (codeSq w)))
      (broadcastInDim S16384x1024 ![0, 1] bcast_S16384x1_S16384x1024_0_1
        (broadcastInDim S16384x1 ![0] bcast_S16384_S16384x1_0 (rowSq x))))
    (mulf (broadcastInDim S16384x1024 ![] bcast_S_S16384x1024 (constant S_ .f32 0x40000000#32))
      (Host.dotGeneral dot_S16384x64_S64x1024_S16384x1024_1_0_0_1_n_n none (rows x)
        (transpose S64x1024 [1, 0] w transposes_S1024x64_S64x1024_1_0)))

/-- The smallest entry of each row of a table, as the reference's reduction over (entry, column) pairs keeps it. -/
def least (d : FVec F S16384x1024 .f32) (n : IVec S16384x1024 32) (d₀ : FVec F S_ .f32) (n₀ : IVec S_ 32) :
    FVec F S16384 .f32 :=
  Prod.fst ∘ Host.argReduce reducer_argmin_f32_i32 d n d₀ n₀ reducesTo_S16384x1024_S16384_d1 h_S_

/-- The column that the same reduction keeps beside it. -/
def column (d : FVec F S16384x1024 .f32) (n : IVec S16384x1024 32) (d₀ : FVec F S_ .f32) (n₀ : IVec S_ 32) :
    IVec S16384 32 :=
  Prod.snd ∘ Host.argReduce reducer_argmin_f32_i32 d n d₀ n₀ reducesTo_S16384x1024_S16384_d1 h_S_

/-- For each row of a table, the index the reference picks: the reduction started at (infinity, 0). -/
def pick (d : FVec F S16384x1024 .f32) : IVec S16384 32 :=
  column d (iotaInDim S16384x1024 32 1) (constant S_ .f32 0x7F800000#32) (constantI S_ 32 0#32)

/-- What the reference returns: the picked indices, laid out over batch and position. -/
def answer (x : FVec F S16x64x32x32 .f32) (w : FVec F S1024x64 .f32) : IVec S16x32x32 32 :=
  shapeCast S16x32x32 (pick (table x w)) shapeCasts_S16384_S16x32x32

/-- The reference's operations in order, the call's five in their place, over the two functions `f` and `g` that
    the call's reduction applies for its two results. -/
def opsOver (f : FVec F S16384x1024 .f32 → IVec S16384x1024 32 → FVec F S_ .f32 → IVec S_ 32 → FVec F S16384 .f32)
    (g : FVec F S16384x1024 .f32 → IVec S16384x1024 32 → FVec F S_ .f32 → IVec S_ 32 → IVec S16384 32) :
    List (HloOp τ sig (Elt F)) :=
  [ unary main_arg0 main_v0 (transpose S16x32x32x64 [0, 2, 3, 1] · transposes_S16x64x32x32_S16x32x32x64_0_2_3_1),
    unary main_arg0 main_v1 (transpose S16x32x32x64 [0, 2, 3, 1] · transposes_S16x64x32x32_S16x32x32x64_0_2_3_1),
    reshape main_v1 main_v2 rfl shapeCasts_S16x32x32x64_S16384x64,
    binary main_arg1 main_arg1 main_v3 mulf,
    nullary main_cst (constant S_ .f32 0x00000000#32),
    binary main_v3 main_cst main_v4 (fun x v => Host.reduceAdd x v reducesTo_S1024x64_S1024_d1 h_S_),
    binary main_v2 main_v2 main_v5 mulf,
    nullary main_cst_0 (constant S_ .f32 0x00000000#32),
    binary main_v5 main_cst_0 main_v6 (fun x v => Host.reduceAdd x v reducesTo_S16384x64_S16384_d1 h_S_),
    unary main_v6 main_v7 (broadcastInDim S16384x1 ![0] bcast_S16384_S16384x1_0),
    unary main_v4 main_v8 (broadcastInDim S1x1024 ![1] bcast_S1024_S1x1024_1),
    unary main_v8 main_v9 (broadcastInDim S16384x1024 ![0, 1] bcast_S1x1024_S16384x1024_0_1),
    unary main_v7 main_v10 (broadcastInDim S16384x1024 ![0, 1] bcast_S16384x1_S16384x1024_0_1),
    binary main_v9 main_v10 main_v11 addf,
    unary main_arg1 main_v12 (transpose S64x1024 [1, 0] · transposes_S1024x64_S64x1024_1_0),
    binary main_v2 main_v12 main_v13 (fun l r => Host.dotGeneral dot_S16384x64_S64x1024_S16384x1024_1_0_0_1_n_n none l r),
    nullary main_cst_1 (constant S_ .f32 0x40000000#32),
    unary main_cst_1 main_v14 (broadcastInDim S16384x1024 ![] bcast_S_S16384x1024),
    binary main_v14 main_v13 main_v15 mulf,
    binary main_v11 main_v15 main_v16 subf,
    TRef.nullary main_call0.v0 (iotaInDim S16384x1024 32 1),
    TRef.nullary main_call0.cst (constant S_ .f32 0x7F800000#32),
    TRef.nullary main_call0.c (constantI S_ 32 0#32),
    TRef.quaternary (.of main_v16) main_call0.v0 main_call0.cst main_call0.c main_call0.v1_0 f,
    TRef.quaternary (.of main_v16) main_call0.v0 main_call0.cst main_call0.c main_call0.v1_1 g,
    reshape main_v17 main_v18 rfl shapeCasts_S16384_S16x32x32 ]

/-- The reference's operations. -/
abbrev ops : List (HloOp τ sig (Elt F)) := opsOver least column

/-- The printed program is that list, run in order. -/
theorem main_is_ops (d : Dev nD) : main (F := F) d = seq ops := by
  simp only [main, fn_argmin.body, seq, bind_assoc, pure_bind]
  rfl

/-- After the operations the result buffer holds `g` of the table, of the column numbers and of the two starting
    values, reshaped: whatever the two functions are. -/
theorem result_after (f) (g) (V : Valuation τ sig (Elt F)) :
    after (opsOver f g) V (main_v18 : DevRef τ sig)
      = shapeCast S16x32x32
          (g (table (V (main_arg0 : DevRef τ sig)) (V (main_arg1 : DevRef τ sig))) (iotaInDim S16384x1024 32 1)
            (constant S_ .f32 0x7F800000#32) (constantI S_ 32 0#32))
          shapeCasts_S16384_S16x32x32 := by
  unfold opsOver; after_results_simp
  rfl

/-- No operation writes the first argument. -/
theorem arg0_after (f) (g) (V : Valuation τ sig (Elt F)) :
    after (opsOver f g) V (main_arg0 : DevRef τ sig) = V (main_arg0 : DevRef τ sig) := by
  unfold opsOver; after_results_simp

/-- No operation writes the second argument. -/
theorem arg1_after (f) (g) (V : Valuation τ sig (Elt F)) :
    after (opsOver f g) V (main_arg1 : DevRef τ sig) = V (main_arg1 : DevRef τ sig) := by
  unfold opsOver; after_results_simp

/-- Every operation works on the TensorCore's own buffers. -/
theorem ops_on_core (f) (g) : (opsOver f g : List (HloOp τ sig (Elt F))).Forall fun op => op.bufs ⊆ tcRefs τ sig :=
  ⟨unary_bufs_sub .., unary_bufs_sub .., reshape_bufs_sub .., binary_bufs_sub .., nullary_bufs_sub .., binary_bufs_sub ..,
    binary_bufs_sub .., nullary_bufs_sub .., binary_bufs_sub .., unary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., nullary_bufs_sub .., nullary_bufs_sub ..,
    quaternary_bufs_sub .., quaternary_bufs_sub .., reshape_bufs_sub ..⟩

/-- Every execution of the reference ends with `answer` in the result and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18)
          = answer (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  θ_run_mono (run_seq (by decide) (by decide) defs main (fun _ => ops) main_is_ops (fun _ => ops_on_core _ _) m ρ)
    fun _ h c => ⟨(h c main_v18).trans (result_after _ _ _), (h c main_arg0).trans (arg0_after _ _ _),
      (h c main_arg1).trans (arg1_after _ _ _)⟩

/-- … and, the program having no semaphore, with every counter at zero. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  θ_run_mono (run m ρ) fun r h => ⟨fun c => (h c).2, sem_eq_zero_of_no_sems (by decide) r.2⟩

end Cert.Nearest.Reference

end
-- ==== Proof.Nearest.lean ====
/-
  The mathematics, with no array in it.  A vector `v` of 64 entries and 1024 codes `w k`: `distance` is the squared
  distance as the reference forms it, `score` is what the kernel forms instead, the squared distance without the
  vector's own squared length.  Among finite numbers the two differ by a constant, so a code that is strictly nearest
  by the one is strictly nearest by the other.
-/
module

public import Idealize.ShloMosaic.PureOps.Ideal.Laws
public import Idealize.ShloMosaic.Lib.IdealHost

@[expose] public section

noncomputable section

namespace Cert.Nearest

open Idealize.ShloMosaic

/-- Every entry of a family of extended reals is a real number. -/
def Finite {ι : Type} (v : ι → EReal) : Prop := ∀ i, v i ≠ ⊤ ∧ v i ≠ ⊥

/-- The squared length of a vector. -/
def lengthSq (v : Fin 64 → EReal) : EReal := ∑ c, v c * v c

/-- The squared distance from `v` to code `k`, spelled as the reference spells it: |w|² + |v|² − 2⟨v, w⟩. -/
def distance (w : Fin 1024 → Fin 64 → EReal) (v : Fin 64 → EReal) (k : Fin 1024) : EReal :=
  lengthSq (w k) + lengthSq v - Ideal.ofBits .f32 0x40000000#32 * ∑ c, v c * w k c

/-- What the kernel compares: |w|² + ⟨−2w, v⟩, the squared distance without the vector's own squared length. -/
def score (w : Fin 1024 → Fin 64 → EReal) (v : Fin 64 → EReal) (k : Fin 1024) : EReal :=
  lengthSq (w k) + ∑ c, w k c * Ideal.ofBits .f32 0xC0000000#32 * v c

/-- Code `k` is strictly nearest in the table `d`: every other entry is larger. -/
def Strictly {N : ℕ} (d : Fin N → EReal) (k : Fin N) : Prop := ∀ l, l ≠ k → d k < d l

/-- The constant 2. -/
theorem two_const : Ideal.ofBits .f32 0x40000000#32 = ((2 : ℝ) : EReal) := by
  simp [Ideal.ofBits, Ideal.ieee, -EReal.coe_mul]; norm_num

/-- The constant −2. -/
theorem neg_two_const : Ideal.ofBits .f32 0xC0000000#32 = ((-2 : ℝ) : EReal) := by
  simp [Ideal.ofBits, Ideal.ieee, -EReal.coe_mul, -EReal.coe_neg]; norm_num

/-- The constant infinity, from which both programs start a minimum. -/
theorem inf_const : Ideal.ofBits .f32 0x7F800000#32 = ⊤ := by
  simp [Ideal.ofBits, Ideal.ieee]

/-- A finite family is the image of a family of real numbers. -/
theorem Finite.exists_real {ι : Type} {v : ι → EReal} (h : Finite v) : ∃ r : ι → ℝ, v = fun i => (r i : EReal) :=
  ⟨fun i => (v i).toReal, funext fun i => (EReal.coe_toReal (h i).1 (h i).2).symm⟩

/-- A sum of real numbers, read among the extended reals. -/
theorem coe_sum {ι : Type} (s : Finset ι) (r : ι → ℝ) : (∑ i ∈ s, (r i : EReal)) = ((∑ i ∈ s, r i : ℝ) : EReal) := by
  classical
  induction s using Finset.induction_on with
  | empty => simp
  | insert a s ha ih => rw [Finset.sum_insert ha, Finset.sum_insert ha, ih, EReal.coe_add]

/-- For finite codes and a finite vector the squared distance is the score plus a real number that is the same for
    every code, the vector's squared length. -/
theorem distance_eq (w : Fin 1024 → Fin 64 → EReal) (v : Fin 64 → EReal) (hw : ∀ k, Finite (w k)) (hv : Finite v) :
    ∃ (a : ℝ) (s : Fin 1024 → ℝ), (∀ k, score w v k = (s k : EReal)) ∧ ∀ k, distance w v k = ((s k + a : ℝ) : EReal) := by
  obtain ⟨r, rfl⟩ := hv.exists_real
  choose u hu using fun k => (hw k).exists_real
  obtain rfl : w = fun k c => (u k c : EReal) := funext hu
  refine ⟨∑ c, r c * r c, fun k => ∑ c, u k c * u k c + ∑ c, u k c * (-2) * r c, fun k => ?_, fun k => ?_⟩
  · unfold score lengthSq
    simp only [neg_two_const, ← EReal.coe_mul, coe_sum, ← EReal.coe_add]
  · unfold distance lengthSq
    simp only [two_const, ← EReal.coe_mul, coe_sum, ← EReal.coe_add, ← EReal.coe_sub]
    congr 1
    have e : ∑ c, u k c * (-2) * r c = -(2 * ∑ c, r c * u k c) := by
      rw [Finset.mul_sum, ← Finset.sum_neg_distrib]
      exact Finset.sum_congr rfl fun c _ => by ring
    rw [e]; ring

/-- So the strictly nearest code by squared distance is the one of strictly smallest score. -/
theorem strictly_score {w : Fin 1024 → Fin 64 → EReal} {v : Fin 64 → EReal} (hw : ∀ k, Finite (w k)) (hv : Finite v)
    {k : Fin 1024} (h : Strictly (distance w v) k) : Strictly (score w v) k := by
  obtain ⟨a, s, hs, hd⟩ := distance_eq w v hw hv
  intro l hl
  have := h l hl
  rw [hd, hd, EReal.coe_lt_coe_iff] at this
  rw [hs, hs, EReal.coe_lt_coe_iff]
  linarith

/-- A strict minimum is where the minimum over the table is attained, and the only place. -/
theorem Strictly.le_fold_iff {d : Fin 1024 → EReal} {k : Fin 1024} (h : Strictly d k) (l : Fin 1024) :
    d l ≤ Finset.univ.fold min ⊤ d ↔ l = k := by
  constructor
  · intro hl
    by_contra hne
    have hk : d l ≤ d k := ((Finset.le_fold_min (d l)).1 hl).2 k (Finset.mem_univ k)
    exact absurd (h l hne) (not_lt.2 hk)
  · rintro rfl
    refine (Finset.le_fold_min _).2 ⟨le_top, fun i _ => ?_⟩
    rcases eq_or_ne i l with rfl | hne
    · exact le_rfl
    · exact (h i hne).le

/-- Where exactly one entry equals the minimum, that entry is the strict minimum. -/
theorem strictly_of_card {d : Fin 1024 → EReal}
    (h : (Finset.univ.filter fun l => d l = Finset.univ.fold min ⊤ d).card = 1) : ∃ k, Strictly d k := by
  obtain ⟨k, hk⟩ := Finset.card_eq_one.1 h
  have hmem : ∀ l, d l = Finset.univ.fold min ⊤ d ↔ l = k := fun l => by
    have := Finset.ext_iff.1 hk l
    simpa using this
  have hle : ∀ l, Finset.univ.fold min ⊤ d ≤ d l := fun l => ((Finset.le_fold_min _).1 le_rfl).2 l (Finset.mem_univ l)
  refine ⟨k, fun l hl => lt_of_le_of_ne ?_ fun e => hl ((hmem l).1 ?_)⟩
  · rw [(hmem k).2 rfl]; exact hle l
  · rw [← e]; exact (hmem k).2 rfl

/-- The kernel's way from a table to an index: the sum of the column numbers over the columns whose entry does not
    exceed the minimum, rounded to a word. -/
def weighted (d : Fin 1024 → EReal) : BitVec 32 :=
  Ideal.fptosi 32 (∑ l : Fin 1024, (((BitVec.ofNat 32 l.val).toInt : ℝ) : EReal)
    * if d l ≤ Finset.univ.fold min (Ideal.ofBits .f32 0x7F800000#32) d then 1 else 0)

/-- With a strict minimum at `k` that is the word of `k`: one column number is left in the sum. -/
theorem weighted_of_strictly {d : Fin 1024 → EReal} {k : Fin 1024} (h : Strictly d k) :
    weighted d = BitVec.ofNat 32 k.val := by
  unfold weighted
  rw [inf_const]
  have hk := k.isLt
  have e : (BitVec.ofNat 32 k.val).toInt = (k.val : ℤ) := by
    rw [BitVec.toInt_eq_toNat_of_lt (by rw [BitVec.toNat_ofNat]; omega), BitVec.toNat_ofNat]
    omega
  simp only [h.le_fold_iff, mul_ite, mul_one, mul_zero, Finset.sum_ite_eq', Finset.mem_univ, if_true, e]
  unfold Ideal.fptosi
  rw [Ideal.toIntClamped_coe]
  have hz : (0 : ℝ) ≤ ((k.val : ℤ) : ℝ) := by positivity
  rw [if_pos hz, Int.floor_intCast]
  have : max (-((2 ^ (32 - 1) : ℕ) : ℤ)) (min (((2 ^ (32 - 1) : ℕ) : ℤ) - 1) (k.val : ℤ)) = (k.val : ℤ) := by
    norm_num; omega
  rw [this, BitVec.ofInt_natCast]

end Cert.Nearest

end
-- ==== Proof.Vectors.lean ====
/-
  The vectors and codes that the two arguments hold: position `n` of the 16384 is batch n / 1024, row n / 32 mod 32,
  column n mod 32, and its vector runs over the channels.
-/
module

public import proofs.«01_k».proof.Proof.Nearest
public import Idealize.ShloMosaic.Lib.Pointwise

@[expose] public section

noncomputable section

namespace Cert.Nearest

open Idealize.ShloMosaic

/-- The input vector at position `n`. -/
def vector (x : FVec Ideal ⟨4, ![16, 64, 32, 32]⟩ .f32) (n : Fin 16384) (c : Fin 64) : EReal :=
  x (ix4 ⟨n.val / 1024, by omega⟩ c ⟨n.val / 32 % 32, by omega⟩ ⟨n.val % 32, by omega⟩)

/-- Code `k` of the codebook. -/
def code (w : FVec Ideal ⟨2, ![1024, 64]⟩ .f32) (k : Fin 1024) (c : Fin 64) : EReal := w (ix2 k c)

/-- The position of batch `b`, row `r`, column `s`. -/
def position (b : Fin 16) (r s : Fin 32) : Fin 16384 := ⟨1024 * b.val + 32 * r.val + s.val, by omega⟩

/-- An argument whose every entry is finite holds finite vectors. -/
theorem finite_vector {x : FVec Ideal ⟨4, ![16, 64, 32, 32]⟩ .f32} (h : Finite x) (n : Fin 16384) : Finite (vector x n) :=
  fun _ => h _

/-- A codebook whose every entry is finite holds finite codes. -/
theorem finite_code {w : FVec Ideal ⟨2, ![1024, 64]⟩ .f32} (h : Finite w) (k : Fin 1024) : Finite (code w k) :=
  fun _ => h _

end Cert.Nearest

end
-- ==== Proof.Precondition.lean ====
/-
  What the precondition says: every entry of both arguments is finite, and each input vector has a code that is
  strictly nearest.
-/
module

public import proofs.«01_k».proof.Defs
public import proofs.«01_k».proof.Proof.Gen.Pre_one_nearest
public import proofs.«01_k».proof.Proof.Vectors
public import Idealize.ShloMosaic.Lib.ReduceAll
public import Idealize.ShloMosaic.Lib.StableHlo.Predicate

@[expose] public section

set_option maxRecDepth 16384

noncomputable section

namespace Cert.Nearest.Precondition

open Cert.Pre_one_nearest Cert.Pre_one_nearest.Gen
open Idealize.ShloMosaic

/-- The squared distances, as the precondition forms them. -/
def table (x : FVec Ideal S16x64x32x32 .f32) (w : FVec Ideal S1024x64 .f32) : FVec Ideal S16384x1024 .f32 :=
  subf
    (addf (broadcastInDim S16384x1024 ![0, 1] bcast_S1x1024_S16384x1024_0_1
            (broadcastInDim S1x1024 ![1] bcast_S1024_S1x1024_1
              (Host.reduceAdd (mulf w w) (constant S_ .f32 0x00000000#32) reducesTo_S1024x64_S1024_d1 h_S_)))
      (broadcastInDim S16384x1024 ![0, 1] bcast_S16384x1_S16384x1024_0_1
        (broadcastInDim S16384x1 ![0] bcast_S16384_S16384x1_0 (Host.reduceAdd
          (mulf (shapeCast S16384x64 (transpose S16x32x32x64 [0, 2, 3, 1] x transposes_S16x64x32x32_S16x32x32x64_0_2_3_1) shapeCasts_S16x32x32x64_S16384x64)
            (shapeCast S16384x64 (transpose S16x32x32x64 [0, 2, 3, 1] x transposes_S16x64x32x32_S16x32x32x64_0_2_3_1) shapeCasts_S16x32x32x64_S16384x64))
          (constant S_ .f32 0x00000000#32) reducesTo_S16384x64_S16384_d1 h_S_))))
    (mulf (broadcastInDim S16384x1024 ![] bcast_S_S16384x1024 (constant S_ .f32 0x40000000#32))
      (Host.dotGeneral dot_S16384x64_S64x1024_S16384x1024_1_0_0_1_n_n none
        (shapeCast S16384x64 (transpose S16x32x32x64 [0, 2, 3, 1] x transposes_S16x64x32x32_S16x32x32x64_0_2_3_1) shapeCasts_S16x32x32x64_S16384x64)
        (transpose S64x1024 [1, 0] w transposes_S1024x64_S64x1024_1_0)))

/-- Which entries of a table equal the smallest of their row. -/
def attained (t : FVec Ideal S16384x1024 .f32) : IVec S16384x1024 1 :=
  cmpf .oeq t (broadcastInDim S16384x1024 ![0, 1] bcast_S16384x1_S16384x1024_0_1
    (broadcastInDim S16384x1 ![0] bcast_S16384_S16384x1_0
      (Host.reduce FloatOps.minimumf t (constant S_ .f32 0x7F800000#32) reducesTo_S16384x1024_S16384_d1 h_S_)))

/-- Which rows of a table attain their smallest entry exactly once. -/
def once (t : FVec Ideal S16384x1024 .f32) : IVec S16384 1 :=
  cmpi .eq (Host.reduce IntOp.addi (extui 32 (attained t) natLt_1_32) (constantI S_ 32 0#32)
      reducesTo_S16384x1024_S16384_d1 h_S_)
    (broadcastInDim S16384 ![] bcast_S_S16384 (constantI S_ 32 1#32))

/-- The precondition is the conjunction of its three parts. -/
theorem fn_eq (x : FVec Ideal S16x64x32x32 .f32) (w : FVec Ideal S1024x64 .f32) : fn (F := Ideal) x w =
    andi (andi (Host.reduce IntOp.andi (once (table x w)) (constantI S_ 1 1#1) reducesTo_S16384_S_d0 h_S_)
        (Host.reduce IntOp.andi
          (cmpf .olt (Host.absf x) (broadcastInDim S16x64x32x32 ![] bcast_S_S16x64x32x32 (constant S_ .f32 0x7F800000#32)))
          (constantI S_ 1 1#1) reducesTo_S16x64x32x32_S_d0_1_2_3 h_S_))
      (Host.reduce IntOp.andi
        (cmpf .olt (Host.absf w) (broadcastInDim S1024x64 ![] bcast_S_S1024x64 (constant S_ .f32 0x7F800000#32)))
        (constantI S_ 1 1#1) reducesTo_S1024x64_S_d0_1 h_S_) := by
  unfold fn fn_part1 once attained table
  rfl

/-- An extended real below infinity in absolute value is finite. -/
theorem finite_of_abs {a : EReal} (h : Ideal.cmp .olt (max a (-a)) (Ideal.ofBits .f32 0x7F800000#32) = 1#1) :
    a ≠ ⊤ ∧ a ≠ ⊥ := by
  rw [inf_const] at h
  have h' : max a (-a) < ⊤ := of_decide_eq_true ((StableHlo.Predicate.ofBool_eq_one_iff _).1 h)
  constructor
  · rintro rfl; simp at h'
  · rintro rfl; simp at h'

/-- The table holds the squared distances. -/
theorem table_eq (x : FVec Ideal S16x64x32x32 .f32) (w : FVec Ideal S1024x64 .f32) (n : Fin 16384) :
    (fun k => table x w (ix2 n k)) = distance (code w) (vector x n) := by
  funext k
  pointwise [table]
  rfl

/-- An entry is marked when it equals the smallest of its row. -/
theorem attained_iff (t : FVec Ideal S16384x1024 .f32) (n : Fin 16384) (k : Fin 1024) :
    attained t (ix2 n k) = 1#1 ↔ t (ix2 n k) = Finset.univ.fold min ⊤ fun l => t (ix2 n l) := by
  rw [← inf_const]
  pointwise [attained]
  exact (StableHlo.Predicate.ofBool_eq_one_iff _).trans decide_eq_true_iff

/-- A row that attains its smallest entry once has a strict minimum. -/
theorem strictly_of_once (t : FVec Ideal S16384x1024 .f32) (n : Fin 16384) (h : once t (ix1 n) = 1#1) :
    ∃ k, Strictly (fun l => t (ix2 n l)) k := by
  have hc := StableHlo.Predicate.toNat_reduce_count_cols (by norm_num) (attained t) natLt_1_32
    reducesTo_S16384x1024_S16384_d1 h_S_ (ix1 n)
  have he : Host.reduce IntOp.addi (extui 32 (attained t) natLt_1_32) (constantI S_ 32 0#32)
      reducesTo_S16384x1024_S16384_d1 h_S_ (ix1 n) = 1#32 := StableHlo.Predicate.cmpi_eq_iff.1 h
  rw [he] at hc
  have hi : ∀ q : Fin 1024, (StableHlo.Predicate.ij (ix1 n 0) q : S16384x1024.Idx) = ix2 n q := fun q => eq_ix2 _
  refine strictly_of_card (Eq.trans ?_ hc.symm)
  refine congrArg Finset.card (Finset.filter_congr fun q _ => ?_)
  rw [hi]
  exact (attained_iff t n q).symm

/-- What the precondition gives: finite arguments, and a strictly nearest code for every position. -/
theorem decode (x : FVec Ideal S16x64x32x32 .f32) (w : FVec Ideal S1024x64 .f32)
    (h : fn (F := Ideal) x w = fun _ => 1#1) :
    Finite x ∧ Finite w ∧ ∀ n, ∃ k, Strictly (distance (code w) (vector x n)) k := by
  have h0 := congrFun ((fn_eq x w).symm.trans h) ix0
  obtain ⟨h1, hw⟩ := IntOp.andi_eq_one.1 h0
  obtain ⟨hn, hx⟩ := IntOp.andi_eq_one.1 h1
  have : Subsingleton S_.Idx := ⟨fun a b => funext fun i => i.elim0⟩
  refine ⟨fun i => finite_of_abs ?_, fun i => finite_of_abs ?_, fun n => ?_⟩
  · exact Host.reduce_andi_all _ _ _ _ _ hx i
  · exact Host.reduce_andi_all _ _ _ _ _ hw i
  · have := strictly_of_once (table x w) n (Host.reduce_andi_all _ _ _ _ _ hn (ix1 n))
    rwa [table_eq] at this

end Cert.Nearest.Precondition

end
-- ==== Proof.KernelValue.lean ====
/-
  What the kernel returns at an index: the column numbers of the codes whose score does not exceed the smallest score,
  summed and rounded to a word.
-/
module

public import proofs.«01_k».proof.Proof.KernelRun
public import proofs.«01_k».proof.Proof.Vectors

@[expose] public section

set_option maxRecDepth 16384

noncomputable section

namespace Cert.Nearest.Kernel

open Cert.KernelIdeal Cert.KernelIdeal.Gen
open Idealize.ShloMosaic

/-- The body's result for a block `a` of vectors, and scratch buffers filled from the exchanged codebook `C`. -/
theorem body_eq (a : FVec Ideal S1x4096x64 .f32) (C : FVec Ideal S64x1024 .f32) (r : Fin 4096) :
    k0_pay4 (F := Ideal) a (k0_pay2 (F := Ideal) C) (k0_pay3 (F := Ideal) C) (ix3 0 0 r)
      = weighted (score (fun k c => C (ix2 c k)) fun c => a (ix3 0 r c)) := by
  pointwise [k0_pay4, k0_pay2, k0_pay3, k0_pay1]
  rfl

/-- The exchanged codebook holds the codes. -/
theorem codes_eq (w : FVec Ideal S1024x64 .f32) : (fun k c => codes (F := Ideal) w (ix2 c k)) = code w := by
  funext k c
  pointwise [codes]
  rfl

/-- Row `r` of block `b` is the vector at position 4096·b + r. -/
theorem block_eq (x : FVec Ideal S16x64x32x32 .f32) (b : Fin 4) (r : Fin 4096) :
    (fun c => block (F := Ideal) x b (ix3 0 r c)) = vector x ⟨4096 * b.val + r.val, by omega⟩ := by
  funext c
  pointwise [block, blocks]
  unfold vector
  refine congrArg x ?_
  congr 1 <;> (refine Fin.ext ?_; dsimp only; omega)

/-- What the kernel stores for row `r` of block `b`. -/
theorem stored_eq (x : FVec Ideal S16x64x32x32 .f32) (w : FVec Ideal S1024x64 .f32) (b : Fin 4) (r : Fin 4096) :
    stored (F := Ideal) x w b (ix3 0 0 r) = weighted (score (code w) (vector x ⟨4096 * b.val + r.val, by omega⟩)) := by
  unfold stored
  rw [body_eq, codes_eq, block_eq]

/-- The result array laid out over batch and position: position n is row n mod 4096 of block n / 4096. -/
theorem laid_out (p : IVec S4x1x4096 32) (b : Fin 16) (r s : Fin 32) :
    shapeCast S16x32x32 p shapeCasts_S4x1x4096_S16x32x32 (ix3 b r s)
      = p (ix3 ⟨(position b r s).val / 4096, by omega⟩ 0 ⟨(position b r s).val % 4096, by omega⟩) := by
  pointwise
  refine congrArg p ?_
  unfold position
  congr 1 <;> (refine Fin.ext ?_; dsimp only; omega)

/-- The kernel's result at batch `b`, row `r`, column `s`. -/
theorem answer_eq (x : FVec Ideal S16x64x32x32 .f32) (w : FVec Ideal S1024x64 .f32) (b : Fin 16) (r s : Fin 32) :
    answer (F := Ideal) x w (ix3 b r s) = weighted (score (code w) (vector x (position b r s))) := by
  refine (laid_out (stacked x w) b r s).trans ?_
  refine (stored_eq x w _ _).trans ?_
  congr 3
  exact Fin.ext (Nat.div_add_mod _ _)

end Cert.Nearest.Kernel

end
-- ==== Proof.ReferenceValue.lean ====
/-
  What the reference returns at an index.  Its reduction over (entry, column) pairs keeps the column of a strict
  minimum, in whatever order the row's pairs come: before that column is met the kept entry is larger than it, and
  from then on the pair stays.
-/
module

public import proofs.«01_k».proof.Proof.ReferenceRun
public import proofs.«01_k».proof.Proof.Vectors
public import Idealize.ShloMosaic.Lib.Pointwise

@[expose] public section

set_option maxRecDepth 16384

noncomputable section

namespace Cert.Nearest.Reference

open Cert.ReferenceIdeal Cert.ReferenceIdeal.Gen
open Idealize.ShloMosaic

/-- The pair of an entry and its column number, as the reduction carries them. -/
abbrev entry (d : Fin 1024 → EReal) (l : Fin 1024) : EReal × BitVec 32 := (d l, BitVec.ofNat 32 l.val)

/-- One step of the reference's reduction, a (kept, met) pair of pairs. -/
abbrev step (a b : EReal × BitVec 32) : EReal × BitVec 32 := reducer_argmin_f32_i32 (F := Ideal) a b

/-- The step in words of the order: the smaller entry is kept, and of two equal ones the smaller column number. -/
theorem step_eq (a b : EReal × BitVec 32) :
    step a b = (if a.1 < b.1 then a.1 else b.1, if a.1 < b.1 ∨ (a.1 = b.1 ∧ a.2.slt b.2) then a.2 else b.2) := by
  unfold step reducer_argmin_f32_i32
  simp only [Ideal.cmpf_def, Ideal.cmp]
  by_cases h : a.1 < b.1 <;> by_cases h' : a.1 = b.1 <;> cases h'' : a.2.slt b.2 <;>
    simp [h, h', h'', IntOp.ori, IntOp.andi, IntOp.cmpi, Scalar.select]

/-- A kept pair with the smaller entry stays. -/
theorem step_stays {a b : EReal × BitVec 32} (h : a.1 < b.1) : step a b = a := by
  rw [step_eq, if_pos h, if_pos (Or.inl h)]

/-- A met pair with the smaller entry is taken. -/
theorem step_takes {a b : EReal × BitVec 32} (h : b.1 < a.1) : step a b = b := by
  rw [step_eq, if_neg h.not_gt, if_neg (by rintro (c | c); exacts [h.not_gt c, h.ne' c.1])]

/-- Of two equal entries either is kept. -/
theorem step_equal {a b : EReal × BitVec 32} (h : a.1 = b.1) : (step a b).1 = b.1 := by
  rw [step_eq, if_neg (by rw [h]; exact lt_irrefl _)]

/-- A pair met again changes nothing. -/
theorem step_same (a : EReal × BitVec 32) : step a a = a := by
  rw [step_eq]; simp

/-- Once the strict minimum's pair is kept, it stays. -/
theorem fold_stays {d : Fin 1024 → EReal} {k : Fin 1024} (h : Strictly d k) (L : List (EReal × BitVec 32))
    (hL : ∀ p ∈ L, ∃ l, p = entry d l) : L.foldl step (entry d k) = entry d k := by
  induction L with
  | nil => rfl
  | cons p L ih =>
    obtain ⟨l, rfl⟩ := hL p (List.mem_cons_self ..)
    have e : step (entry d k) (entry d l) = entry d k := by
      rcases eq_or_ne l k with rfl | hne
      · exact step_same _
      · exact step_stays (h l hne)
    rw [List.foldl_cons, e]
    exact ih fun p hp => hL p (List.mem_cons_of_mem _ hp)

/-- Started above the strict minimum, over pairs among which its own is, the reduction ends with its pair. -/
theorem fold_finds {d : Fin 1024 → EReal} {k : Fin 1024} (h : Strictly d k) (L : List (EReal × BitVec 32))
    (hL : ∀ p ∈ L, ∃ l, p = entry d l) (hk : entry d k ∈ L) (a : EReal × BitVec 32) (ha : d k < a.1) :
    L.foldl step a = entry d k := by
  induction L generalizing a with
  | nil => exact absurd hk (List.not_mem_nil)
  | cons p L ih =>
    have hL' : ∀ p ∈ L, ∃ l, p = entry d l := fun p hp => hL p (List.mem_cons_of_mem _ hp)
    obtain ⟨l, rfl⟩ := hL p (List.mem_cons_self ..)
    rw [List.foldl_cons]
    rcases eq_or_ne l k with rfl | hne
    · rw [step_takes ha]
      exact fold_stays h L hL'
    · have hmem : entry d k ∈ L := by
        rcases List.mem_cons.1 hk with e | e
        · exact absurd (h l hne) (by rw [show d k = d l from congrArg Prod.fst e]; exact lt_irrefl _)
        · exact e
      refine ih hL' hmem _ ?_
      rcases lt_trichotomy a.1 (d l) with c | c | c
      · rw [step_stays c]; exact ha
      · rw [step_equal c]; exact h l hne
      · rw [step_takes c]; exact h l hne

/-- The entry at `i` belongs to row `n` when its first coordinate is `n`. -/
theorem drop_iff (n : Fin 16384) (i : S16384x1024.Idx) : reducesTo_S16384x1024_S16384_d1.drop i = ix1 n ↔ i 0 = n := by
  have hv : (reducesTo_S16384x1024_S16384_d1.drop i 0 : ℕ) = i 0 :=
    Shape.ReducesTo.drop_apply_val_of_eq reducesTo_S16384x1024_S16384_d1 i 0 0
  constructor
  · intro e; rw [e] at hv; exact Fin.ext hv.symm
  · rintro rfl; funext b
    obtain rfl : b = 0 := Subsingleton.elim _ _
    exact Fin.ext hv

/-- The pairs of row `n` that the reduction meets. -/
abbrev met (t : FVec Ideal S16384x1024 .f32) (n : Fin 16384) : List (EReal × BitVec 32) :=
  Host.argReduceFiber t (iotaInDim S16384x1024 32 1) reducesTo_S16384x1024_S16384_d1 (ix1 n)

/-- Each pair met is an entry of the row with its column number. -/
theorem met_entries (t : FVec Ideal S16384x1024 .f32) (n : Fin 16384) :
    ∀ p ∈ met t n, ∃ l, p = entry (fun l => t (ix2 n l)) l := by
  intro p hp
  obtain ⟨q, hq, rfl⟩ := List.mem_map.1 hp
  have hq' := (drop_iff n _).1 (of_decide_eq_true (List.mem_filter.1 hq).2)
  generalize S16384x1024.rowMajor.symm q = i at hq'
  subst hq'
  exact ⟨i 1, Prod.ext (congrArg t (eq_ix2 i)) rfl⟩

/-- A reduction over pairs meets the pair at every index of its row. -/
theorem pair_mem_fiber {s t : Shape} {α β : Type} {axes : List (Fin s.rank)} (x : s.Idx → α) (y : s.Idx → β)
    (h : s.ReducesTo axes t) (i : s.Idx) (j : t.Idx) (hi : h.drop i = j) : (x i, y i) ∈ Host.argReduceFiber x y h j :=
  List.mem_map.2 ⟨s.rowMajor i,
    List.mem_filter.2 ⟨List.mem_finRange _, decide_eq_true (by rw [Equiv.symm_apply_apply]; exact hi)⟩,
    by rw [Equiv.symm_apply_apply]⟩

/-- Every entry of the row is met. -/
theorem mem_met (t : FVec Ideal S16384x1024 .f32) (n : Fin 16384) (k : Fin 1024) :
    entry (fun l => t (ix2 n l)) k ∈ met t n :=
  pair_mem_fiber t (iotaInDim S16384x1024 32 1) reducesTo_S16384x1024_S16384_d1 (ix2 n k) (ix1 n)
    ((drop_iff n (ix2 n k)).2 rfl)

/-- What the reduction starts from: infinity, and column 0. -/
abbrev start : EReal × BitVec 32 :=
  (constant (F := Ideal) S_ .f32 0x7F800000#32 (Shape.Idx.first h_S_), constantI S_ 32 0#32 (Shape.Idx.first h_S_))

/-- The reference's index is the second half of the reduction of the pairs met. -/
theorem pick_eq (t : FVec Ideal S16384x1024 .f32) (n : Fin 16384) :
    pick (F := Ideal) t (ix1 n) = ((met t n).foldl step start).2 := by
  unfold pick column
  rw [Ideal.argReduce_eq_reduce2, Function.comp_apply, Host.reduce2_eq_foldl_fiber]

/-- The reference's index for row `n` of a table is the row's strict minimum. -/
theorem pick_of_strictly (t : FVec Ideal S16384x1024 .f32) (n : Fin 16384) {k : Fin 1024}
    (h : Strictly (fun l => t (ix2 n l)) k) : pick (F := Ideal) t (ix1 n) = BitVec.ofNat 32 k.val := by
  have hall := met_entries t n
  have hmem := mem_met t n k
  rw [pick_eq]
  generalize met t n = L at hall hmem ⊢
  have htop : (fun l => t (ix2 n l)) k < start.1 := by
    obtain ⟨l, hl⟩ := exists_ne k
    show _ < Ideal.ofBits .f32 0x7F800000#32
    rw [inf_const]
    exact lt_of_lt_of_le (h l hl) le_top
  rw [fold_finds h L hall hmem start htop]

/-- The reference's table holds the squared distances. -/
theorem table_eq (x : FVec Ideal S16x64x32x32 .f32) (w : FVec Ideal S1024x64 .f32) (n : Fin 16384) (k : Fin 1024) :
    table x w (ix2 n k) = distance (code w) (vector x n) k := by
  pointwise [table, codeSq, rowSq, rows]
  rfl

/-- A row of indices laid out over batch and position. -/
theorem laid_out (p : IVec S16384 32) (b : Fin 16) (r s : Fin 32) :
    shapeCast S16x32x32 p shapeCasts_S16384_S16x32x32 (ix3 b r s)
      = p (ix1 (position b r s)) := by
  pointwise
  exact congrArg p (congrArg ix1 (Fin.ext (by show b.val * 1024 + r.val * 32 + s.val = 1024 * b.val + 32 * r.val + s.val; omega)))

/-- The reference's result at batch `b`, row `r`, column `s` is its pick for position 1024·b + 32·r + s. -/
theorem answer_eq (x : FVec Ideal S16x64x32x32 .f32) (w : FVec Ideal S1024x64 .f32) (b : Fin 16) (r s : Fin 32) :
    answer x w (ix3 b r s) = pick (table x w) (ix1 (position b r s)) :=
  laid_out (pick (table x w)) b r s

end Cert.Nearest.Reference

end
-- ==== Proof.Equation.lean ====
/-
  The equation: at a position whose vector is finite and has a strictly nearest code, the kernel and the reference
  return the same index, that code's.
-/
module

public import proofs.«01_k».proof.Proof.KernelValue
public import proofs.«01_k».proof.Proof.ReferenceValue

@[expose] public section

noncomputable section

namespace Cert.Nearest

open Idealize.ShloMosaic

/-- One position: both programs return the number of the strictly nearest code. -/
theorem answers_agree_at (x : FVec Ideal ⟨4, ![16, 64, 32, 32]⟩ .f32) (w : FVec Ideal ⟨2, ![1024, 64]⟩ .f32)
    (b : Fin 16) (r s : Fin 32) (hw : ∀ k, Finite (code w k)) (hv : Finite (vector x (position b r s)))
    (h : ∃ k, Strictly (distance (code w) (vector x (position b r s))) k) :
    Kernel.answer (F := Ideal) x w (ix3 b r s) = Reference.answer (F := Ideal) x w (ix3 b r s) := by
  obtain ⟨k, hk⟩ := h
  rw [Kernel.answer_eq, Reference.answer_eq, weighted_of_strictly (strictly_score hw hv hk)]
  refine (Reference.pick_of_strictly _ _ ?_).symm
  intro l hl
  simp only [Reference.table_eq]
  exact hk l hl

/-- All positions: for finite arguments with a strictly nearest code everywhere, the two results are one array. -/
theorem answers_agree (x : FVec Ideal ⟨4, ![16, 64, 32, 32]⟩ .f32) (w : FVec Ideal ⟨2, ![1024, 64]⟩ .f32)
    (hx : Finite x) (hw : Finite w) (h : ∀ n, ∃ k, Strictly (distance (code w) (vector x n)) k) :
    Kernel.answer (F := Ideal) x w = Reference.answer (F := Ideal) x w := by
  funext j
  rw [show j = ix3 (j 0) (j 1) (j 2) from eq_ix3 j]
  exact answers_agree_at x w _ _ _ (finite_code hw) (finite_vector hx _) (h _)

end Cert.Nearest

end
-- ==== Proof.lean ====
/-
  The certificate's proof. The three frames come from the runs of the programs; `preserves` has nothing to show, since
  no operation is rewritten. The equality of the results takes what each program returns (Proof/KernelRun,
  Proof/ReferenceRun), what the precondition says of the arguments (Proof/Precondition), and that the two arrays are
  then one (Proof/Equation).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_one_nearest
public import proofs.«01_k».proof.Proof.KernelRun
public import proofs.«01_k».proof.Proof.ReferenceRun
public import proofs.«01_k».proof.Proof.Precondition
public import proofs.«01_k».proof.Proof.Equation

@[expose] public section

noncomputable section

namespace Cert.Proof

open Idealize.ShloMosaic Idealize.SL.Sem

/-- Under the precondition, from equal arguments, the kernel and the reference end with the same array of indices and
    with their arguments unchanged. -/
theorem same_indices : Cert.algebraic_KernelIdeal_ReferenceIdeal_pre_one_nearest
    (hKernelIdeal := Cert.KernelIdeal.Gen.facts) (hReferenceIdeal := Cert.ReferenceIdeal.Gen.facts)
    (hPre_one_nearest := Cert.Pre_one_nearest.Gen.facts) := by
  intro m g m' g' hpre hargs
  refine ⟨fun c => Nearest.Kernel.answer (Nearest.Kernel.argX m c) (Nearest.Kernel.argW m c),
    Nearest.Kernel.run m g, ?_⟩
  refine θ_run_mono (Nearest.Reference.run m' g') fun r h c => ⟨(h c).1.trans ?_, (h c).2⟩
  obtain ⟨hx, hw, hn⟩ := Nearest.Precondition.decode _ _ (hpre c)
  rw [(hargs c).1, (hargs c).2]
  exact (Nearest.answers_agree _ _ hx hw hn).symm

/-- Every claim of the certificate. -/
theorem claim : Cert.Claim :=
  ⟨Cert.Kernel.Gen.facts, Cert.KernelIdeal.Gen.facts, Cert.ReferenceIdeal.Gen.facts, Cert.Pre_one_nearest.Gen.facts,
    fun m g _ => Cert.Kernel.Gen.frame m g,
    fun m g _ => Cert.KernelIdeal.Gen.frame m g,
    fun m g _ => Cert.KernelIdeal.Gen.frame m g,
    fun m g _ => Nearest.Reference.frame m g,
    fun m g _ => Nearest.Reference.frame m g,
    trivial,
    same_indices⟩

end Cert.Proof

end
